-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x16 : Shape := ⟨3, ![8, 2048, 16]⟩
abbrev S_ : Shape := ⟨0, ![]⟩

class Facts : Prop where
  bcast_S_S8x2048x16 : S_.BroadcastsInDim S8x2048x16 (![] : Fin 0 → Fin S8x2048x16.rank)
  reducesTo_S8x2048x16_S_d0_1_2 : S8x2048x16.ReducesTo [0, 1, 2] S_
  h_S_ : 0 < S_.numel

variable [Facts]

def fn {F : FTy → Type} [FloatOps F] (main_arg0 : FVec F S8x2048x16 .f32) : IVec S_ 1 :=
  let main_v0 : FVec F S8x2048x16 .f32 := Host.absf main_arg0
  let main_cst : FVec F S_ .f32 := constant S_ .f32 0x7F800000#32
  let main_v1 : FVec F S8x2048x16 .f32 := broadcastInDim S8x2048x16 ![] bcast_S_S8x2048x16 main_cst
  let main_v2 : IVec S8x2048x16 1 := cmpf .olt main_v0 main_v1
  let main_c : IVec S_ 1 := constantI S_ 1 1#1
  let main_v3 : IVec S_ 1 := (fun x v => Host.reduce IntOp.andi x v reducesTo_S8x2048x16_S_d0_1_2 h_S_) main_v2 main_c
  main_v3
-- ==== Kernel.lean ====
abbrev S8x2048x16 : Shape := ⟨3, ![8, 2048, 16]⟩
abbrev S8x2048x640 : Shape := ⟨3, ![8, 2048, 640]⟩
abbrev S1x256x16 : Shape := ⟨3, ![1, 256, 16]⟩
abbrev S1x2048x16 : Shape := ⟨3, ![1, 2048, 16]⟩
abbrev S1x256x640 : Shape := ⟨3, ![1, 256, 640]⟩
abbrev S256x16 : Shape := ⟨2, ![256, 16]⟩
abbrev S2048x16 : Shape := ⟨2, ![2048, 16]⟩
abbrev S16x2048 : Shape := ⟨2, ![16, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x2048 : Shape := ⟨2, ![1, 2048]⟩
abbrev S256x128 : Shape := ⟨2, ![256, 128]⟩
abbrev S256x640 : Shape := ⟨2, ![256, 640]⟩
abbrev S8x2048x20x32 : Shape := ⟨4, ![8, 2048, 20, 32]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x16, .f32⟩
  | .hbm, ⟨1, _⟩ => ⟨S8x2048x640, .f32⟩
  | .hbm, ⟨2, _⟩ => ⟨S8x2048x20x32, .f32⟩
  | .local _ .vmem, ⟨0, _⟩ => ⟨S1x256x16, .f32⟩
  | .local _ .vmem, ⟨1, _⟩ => ⟨S1x256x16, .f32⟩
  | .local _ .vmem, ⟨2, _⟩ => ⟨S1x2048x16, .f32⟩
  | .local _ .vmem, ⟨3, _⟩ => ⟨S1x2048x16, .f32⟩
  | .local _ .vmem, ⟨4, _⟩ => ⟨S1x256x640, .f32⟩
  | .local _ .vmem, ⟨5, _⟩ => ⟨S1x256x640, .f32⟩
  | _, _ => ⟨S8x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x2048x16 : Shape := ⟨3, ![8, 2048, 16]⟩
abbrev S8x16x2048 : Shape := ⟨3, ![8, 16, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x20 : Shape := ⟨3, ![8, 2048, 20]⟩
abbrev S16384x16 : Shape := ⟨2, ![16384, 16]⟩
abbrev S8 : Shape := ⟨1, ![8]⟩
abbrev S8x1x1 : Shape := ⟨3, ![8, 1, 1]⟩
abbrev S8x2048x20x1 : Shape := ⟨4, ![8, 2048, 20, 1]⟩
abbrev S1 : Shape := ⟨1, ![1]⟩
abbrev S1x1x1x1 : Shape := ⟨4, ![1, 1, 1, 1]⟩
abbrev S8x2048x20x16 : Shape := ⟨4, ![8, 2048, 20, 16]⟩
abbrev S8x2048x1x16 : Shape := ⟨4, ![8, 2048, 1, 16]⟩
abbrev S1x8x1x2048x1x1x1x16 : Shape := ⟨8, ![1, 8, 1, 2048, 1, 1, 1, 16]⟩
abbrev S1x8x1x2048x20x1x1x16 : Shape := ⟨8, ![1, 8, 1, 2048, 20, 1, 1, 16]⟩
abbrev S8x2048x20x32 : Shape := ⟨4, ![8, 2048, 20, 32]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x16, .f32⟩
  | .hbm, ⟨1, _⟩ => ⟨S8x16x2048, .f32⟩
  | .hbm, ⟨2, _⟩ => ⟨S8x2048x2048, .f32⟩
  | .hbm, ⟨3, _⟩ => ⟨S_, .f32⟩
  | .hbm, ⟨4, _⟩ => ⟨S8x2048x2048, .f32⟩
  | .hbm, ⟨5, _⟩ => ⟨S8x2048x2048, .f32⟩
  | .hbm, ⟨6, _⟩ => ⟨S8x2048x16, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x20, .f32⟩
  | .hbm, ⟨19, _⟩ => ⟨S8x2048x20, .i32⟩
  | .hbm, ⟨20, _⟩ => ⟨S16384x16, .f32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8x1x1, .i32⟩
  | .hbm, ⟨26, _⟩ => ⟨S8x2048x20, .i32⟩
  | .hbm, ⟨27, _⟩ => ⟨S8x2048x20, .i32⟩
  | .hbm, ⟨28, _⟩ => ⟨S_, .i32⟩
  | .hbm, ⟨29, _⟩ => ⟨S8x2048x20, .i32⟩
  | .hbm, ⟨30, _⟩ => ⟨S8x2048x20, .i1⟩
  | .hbm, ⟨31, _⟩ => ⟨S_, .i32⟩
  | .hbm, ⟨32, _⟩ => ⟨S8x2048x20, .i32⟩
  | .hbm, ⟨33, _⟩ => ⟨S8x2048x20, .i32⟩
  | .hbm, ⟨34, _⟩ => ⟨S8x2048x20, .i32⟩
  | .hbm, ⟨35, _⟩ => ⟨S8x2048x20x1, .i32⟩
  | .hbm, ⟨36, _⟩ => ⟨S1, .i32⟩
  | .hbm, ⟨37, _⟩ => ⟨S_, .i32⟩
  | .hbm, ⟨38, _⟩ => ⟨S8x2048x20x1, .i32⟩
  | .hbm, ⟨39, _⟩ => ⟨S8x2048x20x1, .i1⟩
  | .hbm, ⟨40, _⟩ => ⟨S1x1x1x1, .i32⟩
  | .hbm, ⟨41, _⟩ => ⟨S8x2048x20x1, .i32⟩
  | .hbm, ⟨42, _⟩ => ⟨S8x2048x20x1, .i1⟩
  | .hbm, ⟨43, _⟩ => ⟨S8x2048x20x1, .i1⟩
  | .hbm, ⟨44, _⟩ => ⟨S_, .i1⟩
  | .hbm, ⟨45, _⟩ => ⟨S8x2048x20, .i1⟩
  | .hbm, ⟨46, _⟩ => ⟨S8x2048x20x16, .f32⟩
  | .hbm, ⟨47, _⟩ => ⟨S8x2048x20x16, .i1⟩
  | .hbm, ⟨48, _⟩ => ⟨S_, .f32⟩
  | .hbm, ⟨49, _⟩ => ⟨S8x2048x20x16, .f32⟩
  | .hbm, ⟨50, _⟩ => ⟨S8x2048x20x16, .f32⟩
  | .hbm, ⟨51, _⟩ => ⟨S8x2048x1x16, .f32⟩
  | .hbm, ⟨52, _⟩ => ⟨S1x8x1x2048x1x1x1x16, .f32⟩
  | .hbm, ⟨53, _⟩ => ⟨S1x8x1x2048x20x1x1x16, .f32⟩
  | .hbm, ⟨54, _⟩ => ⟨S8x2048x20x16, .f32⟩
  | .hbm, ⟨55, _⟩ => ⟨S8x2048x20x16, .f32⟩
  | .hbm, ⟨56, _⟩ => ⟨S8x2048x20x32, .f32⟩
  | _, _ => ⟨S8x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_values : Ref sig .tc := ⟨.hbm, 18, rfl⟩
abbrev main_indices : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩

abbrev nD : Nat := 1
abbrev τ : Topo := Topo.v7x

variable {F : FTy → Type} [FloatOps F]
-- ==== Proof.Rounds.lean ====
/- The rounds of the kernel's body, written once: the distances of a block, the search for the first nearest
   column chunk by chunk, the column struck out, and the pieces the body stores. -/
module

public import proofs.«01_k».proof.Proof.Gen.KernelIdeal.Frame

@[expose] public section

noncomputable section

namespace Cert.KernelIdeal.Rounds

open Cert.KernelIdeal Cert.KernelIdeal.Gen Idealize.ShloMosaic

variable {F : FTy → Type} [FloatOps F]

/-- Column chunk `c` lies inside the row. -/
theorem slices (c : ℕ) : S256x2048.Slices ![0, 128 * (c % 16)] S256x128 := by
  have h : c % 16 < 16 := Nat.mod_lt _ (by decide)
  generalize c % 16 = k at h
  have : ∀ k : Fin 16, S256x2048.Slices ![0, 128 * k.val] S256x128 := by decide
  exact this ⟨k, h⟩

/-- Chunk `c` of 128 columns. -/
def win (c : ℕ) (v : FVec F S256x2048 .f32) : FVec F S256x128 .f32 :=
  extractStridedSlice S256x128 ![0, 128 * (c % 16)] v (slices c)

/-- The columns' numbers. -/
def cols : FVec F S256x2048 .f32 := sitofp .f32 (iota .tc S256x2048 32 [1] iota_S256x2048_d1_w32)

/-- The block's points. -/
def pts (v0 : Vec F S1x256x16 .f32) : FVec F S256x16 .f32 := shapeCast S256x16 v0 shapeCasts_S1x256x16_S256x16

/-- All the points. -/
def allPts (v2 : Vec F S1x2048x16 .f32) : FVec F S2048x16 .f32 := shapeCast S2048x16 v2 shapeCasts_S1x2048x16_S2048x16

/-- The squared distances. -/
def dist (v0 : Vec F S1x256x16 .f32) (v2 : Vec F S1x2048x16 .f32) : FVec F S256x2048 .f32 :=
  addf
    (addf
      (broadcastTo S256x2048
        (shapeCast S256x1
          (multiReduction .add [1] S256 (mulf (pts v0) (pts v0)) 0x00000000#32 reduces_S256x16_S256 (.inl rfl) rfl)
          shapeCasts_S256_S256x1) broadcasts_S256x1_S256x2048)
      (mulf (broadcast S256x2048 (Scalar.ofBits .f32 0xC0000000#32))
        (matmul dot_S256x16_S16x2048_S256x2048_1_0_0_1_n_n none (pts v0)
          (transpose S16x2048 [1, 0] (allPts v2) transposes_S2048x16_p1_0_S16x2048)
          (constant S256x2048 .f32 0x00000000#32))))
    (broadcastTo S256x2048
      (transpose S1x2048 [1, 0]
        (shapeCast S2048x1
          (multiReduction .add [1] S2048 (mulf (allPts v2) (allPts v2)) 0x00000000#32 reduces_S2048x16_S2048
            (.inl rfl) rfl) shapeCasts_S2048_S2048x1) transposes_S2048x1_p1_0_S1x2048)
      broadcasts_S1x2048_S256x2048)

/-- The running minimum over the chunks up to `c`. -/
def runMin (dm : ℕ → FVec F S256x128 .f32) (c : ℕ) : FVec F S256x128 .f32 :=
  Nat.rec (motive := fun _ => FVec F S256x128 .f32) (dm 0) (fun c r => minimumf (dm (c + 1)) r) c

/-- The column of the running minimum. -/
def runCol (dm : ℕ → FVec F S256x128 .f32) (c : ℕ) : FVec F S256x128 .f32 :=
  Nat.rec (motive := fun _ => FVec F S256x128 .f32) (win 0 cols)
    (fun c r => select (cmpf .olt (dm (c + 1)) (runMin dm c)) (win (c + 1) cols) r) c

/-- A row's least lane. -/
def laneMin (v : FVec F S256x128 .f32) : FVec F S256x1 .f32 :=
  shapeCast S256x1 (multiReduction .minimumf [1] S256 v 0x7F800000#32 reduces_S256x128_S256 (.inl rfl) rfl)
    shapeCasts_S256_S256x1

/-- The least column whose lane attains the row's minimum. -/
def finish (rv ri : FVec F S256x128 .f32) : FVec F S256x1 .f32 :=
  laneMin (select (cmpf .oeq rv (broadcastTo S256x128 (laneMin rv) broadcasts_S256x1_S256x128)) ri
    (broadcast S256x128 (Scalar.ofBits .f32 0x45000000#32)))

/-- The first nearest column. -/
def first (dm : ℕ → FVec F S256x128 .f32) : FVec F S256x1 .f32 := finish (runMin dm 15) (runCol dm 15)

/-- Where chunk `c` holds the column `f`. -/
def sel (f : FVec F S256x1 .f32) (c : ℕ) : IVec S256x128 1 :=
  cmpf .oeq (win c cols) (broadcastTo S256x128 f broadcasts_S256x1_S256x128)

/-- The distances left after `r` rounds, chunk by chunk. -/
def left (D : FVec F S256x2048 .f32) (r : ℕ) : ℕ → FVec F S256x128 .f32 :=
  Nat.rec (motive := fun _ => ℕ → FVec F S256x128 .f32) (fun c => win c D)
    (fun _ dm c => select (sel (first dm) c) (broadcast S256x128 (Scalar.ofBits .f32 0x7F800000#32)) (dm c)) r

/-- The column taken in round `r`. -/
def pick (D : FVec F S256x2048 .f32) (r : ℕ) : FVec F S256x1 .f32 := first (left D r)

/-- Chunk `c` of the row that is one at the column `f`. -/
def hot (f : FVec F S256x1 .f32) (c : ℕ) : FVec F S256x128 .f32 := sitofp .f32 (extui 32 (sel f c) natLt_1_32)

/-- The row that is one at the column `f`, put together from its chunks. -/
def hotRow (f : FVec F S256x1 .f32) : FVec F S256x2048 .f32 :=
  concatenate S256x2048 1
    [⟨S256x128, hot f 0⟩, ⟨S256x128, hot f 1⟩, ⟨S256x128, hot f 2⟩, ⟨S256x128, hot f 3⟩,
     ⟨S256x128, hot f 4⟩, ⟨S256x128, hot f 5⟩, ⟨S256x128, hot f 6⟩, ⟨S256x128, hot f 7⟩,
     ⟨S256x128, hot f 8⟩, ⟨S256x128, hot f 9⟩, ⟨S256x128, hot f 10⟩, ⟨S256x128, hot f 11⟩,
     ⟨S256x128, hot f 12⟩, ⟨S256x128, hot f 13⟩, ⟨S256x128, hot f 14⟩, ⟨S256x128, hot f 15⟩]
    concatenates_S256x128_S256x128_S256x128_S256x128_S256x128_S256x128_S256x128_S256x128_S256x128_S256x128_S256x128_S256x128_S256x128_S256x128_S256x128_S256x128_S256x2048_d1

/-- The same row in one comparison, as the last round makes it. -/
def hotWhole (f : FVec F S256x1 .f32) : FVec F S256x2048 .f32 :=
  sitofp .f32 (extui 32 (cmpf .oeq cols (broadcastTo S256x2048 f broadcasts_S256x1_S256x2048)) natLt_1_32)

/-- The rows of all the points at the columns `oh` marks. -/
def take (oh : FVec F S256x2048 .f32) (xa : FVec F S2048x16 .f32) : FVec F S256x16 .f32 :=
  matmul dot_S256x2048_S2048x16_S256x16_1_0_0_1_n_n none oh xa (constant S256x16 .f32 0x00000000#32)

/-- The neighbour of round `r` less the point. -/
def edge (v0 : Vec F S1x256x16 .f32) (v2 : Vec F S1x2048x16 .f32) (r : ℕ) : FVec F S256x16 .f32 :=
  subf (take (hotRow (pick (dist v0 v2) r)) (allPts v2)) (pts v0)

/-- The last round's, by the whole row. -/
def edgeLast (v0 : Vec F S1x256x16 .f32) (v2 : Vec F S1x2048x16 .f32) : FVec F S256x16 .f32 :=
  subf (take (hotWhole (pick (dist v0 v2) 19)) (allPts v2)) (pts v0)

/-- The columns of store `k` lie inside the block. -/
theorem inbs (k : ℕ) : ∀ a, (![0, 16 * (k % 40)] : Fin 2 → ℕ) a + S256x16.size a ≤ S256x640.size a := by
  have h : k % 40 < 40 := Nat.mod_lt _ (by decide)
  generalize k % 40 = q at h
  have : ∀ q : Fin 40, ∀ a, (![0, 16 * q.val] : Fin 2 → ℕ) a + S256x16.size a ≤ S256x640.size a := by decide
  exact this ⟨q, h⟩

/-- The rectangle of store `k`: sixteen columns of the block. -/
abbrev rect (k : ℕ) : Rect S1x256x640 :=
  (Rect.unit (s := S1x256x640) ![0, 0, 0] S1x256x640.size inb_S1x256x640_S1x256x640_0_0_0).within
    ((Rect.unit (s := S256x640) ![0, 16 * (k % 40)] S256x16.size (inbs k)).consLift S1x256x640.size rfl
      (fun i => match i with | ⟨0, _⟩ => rfl | ⟨1, _⟩ => rfl)) (fun _ => rfl)

/-- The rectangle has as many elements as the stored columns. -/
theorem numel_rect (k : ℕ) : (rect k).shape.numel = S256x16.numel :=
  (by decide : (⟨3, Fin.cons 1 S256x16.size⟩ : Shape).numel = S256x16.numel)

/-- What store `k` leaves. -/
def piece (k : ℕ) (w : FVec F S256x16 .f32) : View.Piece (Elt F) S1x256x640 .f32 :=
  ⟨rect k, Rect.payAlong (r := Rect.unit (s := S256x640) ![0, 16 * (k % 40)] S256x16.size (inbs k)) (R := rect k) (numel_rect k) w⟩

/-- The stores of the rounds before `n`, the last first. -/
def pairs (v0 : Vec F S1x256x16 .f32) (v2 : Vec F S1x2048x16 .f32) (n : ℕ) : List (View.Piece (Elt F) S1x256x640 .f32) :=
  Nat.rec (motive := fun _ => List (View.Piece (Elt F) S1x256x640 .f32)) []
    (fun n l => piece (2 * n + 1) (edge v0 v2 n) :: piece (2 * n) (pts v0) :: l) n

/-- All the stores. -/
def pieces (v0 : Vec F S1x256x16 .f32) (v2 : Vec F S1x2048x16 .f32) : List (View.Piece (Elt F) S1x256x640 .f32) :=
  piece 39 (edgeLast v0 v2) :: piece 38 (pts v0) :: pairs v0 v2 19

/-- The block's points as the body loads them. -/
abbrev ld0 (arg2 : Memref sig .tc .vmem S1x256x16 .f32) (harg2 : arg2.IsWhole) (x0 : Vec F S1x256x16 .f32) :
    Vec F S1x256x16 .f32 :=
  View.readAt (Elt F) arg2.view (Rect.unit (s := S1x256x16) ![0, 0, 0] S1x256x16.size inb_S1x256x16_S1x256x16_0_0_0).toLoadRect
    (harg2.unread x0)

/-- All the points as the body loads them. -/
abbrev ld1 (arg3 : Memref sig .tc .vmem S1x2048x16 .f32) (harg3 : arg3.IsWhole) (x1 : Vec F S1x2048x16 .f32) :
    Vec F S1x2048x16 .f32 :=
  View.readAt (Elt F) arg3.view
    (Rect.unit (s := S1x2048x16) ![0, 0, 0] S1x2048x16.size inb_S1x2048x16_S1x2048x16_0_0_0).toLoadRect (harg3.unread x1)

/-- The body's run leaves these pieces. -/
theorem run_eq (c : Dev nD) (i : grid0.Coords) (arg2 : Memref sig .tc .vmem S1x256x16 .f32) (harg2 : arg2.IsWhole)
    (arg3 : Memref sig .tc .vmem S1x2048x16 .f32) (harg3 : arg3.IsWhole) (arg4 : Memref sig .tc .vmem S1x256x640 .f32)
    (harg4 : arg4.IsWhole) (x0 : Vec F S1x256x16 .f32) (x1 : Vec F S1x2048x16 .f32) :
    (kernelRun0_A c i arg2 harg2 arg3 harg3 arg4 harg4 x0 x1).1 = pieces (ld0 arg2 harg2 x0) (ld1 arg3 harg3 x1) := by
  sl_kernel_rfl

end Cert.KernelIdeal.Rounds

end
-- ==== Proof.Nearest.lean ====
/- Taking the nearest entry again and again, and sorting: the entry that round `r` takes (the first of the least
   entries left, the taken ones struck out by ⊤) is the entry that a stable sort puts at place `r`. -/
module

public import Idealize.ShloMosaic.Lib.SortPrefix

@[expose] public section

namespace Cert.Nearest

open Idealize.ShloMosaic

/-- Two relations that agree wherever the left position is the later sort a list of increasing positions alike. -/
theorem stableSort_congr_later {n : ℕ} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- So their sorts of all the positions are the same. -/
theorem sortedFrom_congr_later {n : ℕ} (R R' : Fin n → Fin n → Bool) (h : ∀ a b, a < b → R b a = R' b a) :
    sortedFrom R = sortedFrom R' := by
  funext k
  unfold sortedFrom
  have e : sortPositions n R = sortPositions n R' := stableSort_congr_later R R' h _ (List.pairwise_lt_finRange n)
  rw [List.get_of_eq e]
  rfl

variable {α : Type} [LinearOrder α] [OrderTop α] {n : ℕ}

/-- `a` is the first of `f`'s least entries. -/
def IsFirst (f : Fin n → α) (a : Fin n) : Prop := ∀ c, f a ≤ f c ∧ (c < a → f a < f c)

omit [OrderTop α] in
/-- Such an entry is unique. -/
theorem IsFirst.unique {f : Fin n → α} {a b : Fin n} (ha : IsFirst f a) (hb : IsFirst f b) : a = b := by
  rcases lt_trichotomy a b with h | h | h
  · exact absurd ((hb a).2 h) (not_lt.mpr (ha b).1)
  · exact h
  · exact absurd ((ha b).2 h) (not_lt.mpr (hb a).1)

/-- `σ` takes the first least entry of `L r` in round `r`, and strikes it out. -/
structure Rounds (d : Fin n → α) (L : ℕ → Fin n → α) (σ : ℕ → Fin n) : Prop where
  zero : ∀ c, L 0 c = d c
  succ : ∀ r c, L (r + 1) c = if c = σ r then ⊤ else L r c
  first : ∀ r, IsFirst (L r) (σ r)

namespace Rounds

variable {d : Fin n → α} {L : ℕ → Fin n → α} {σ : ℕ → Fin n} (h : Rounds d L σ)
include h

/-- An entry not taken yet is as it was. -/
theorem left_of_not (r : ℕ) (c : Fin n) (hc : ∀ j < r, σ j ≠ c) : L r c = d c := by
  induction r with
  | zero => exact h.zero c
  | succ r ih =>
    rw [h.succ, if_neg fun e => hc r (Nat.lt_succ_self r) e.symm, ih fun j hj => hc j (Nat.lt_succ_of_lt hj)]

/-- An entry already taken is ⊤. -/
theorem left_of_taken (r : ℕ) (j : ℕ) (hj : j < r) : L r (σ j) = ⊤ := by
  induction r with
  | zero => exact absurd hj (Nat.not_lt_zero j)
  | succ r ih =>
    rw [h.succ]
    split
    · rfl
    · rename_i hne
      rcases Nat.lt_succ_iff_lt_or_eq.mp hj with h1 | h1
      · exact ih h1
      · exact absurd (by rw [h1]) hne

/-- While fewer than `n` rounds are done, round `r` takes a fresh entry, for entries below ⊤. -/
theorem fresh (hd : ∀ c, d c ≠ ⊤) (r : ℕ) (hr : r < n) (j : ℕ) (hj : j < r) : σ j ≠ σ r := by
  intro e
  have hcard : (Finset.univ.image fun i : Fin r => σ i).card < (Finset.univ : Finset (Fin n)).card := by
    refine lt_of_le_of_lt Finset.card_image_le ?_
    simpa using hr
  obtain ⟨c, -, hc⟩ := Finset.exists_mem_notMem_of_card_lt_card hcard
  have hc' : ∀ i < r, σ i ≠ c := fun i hi he => hc (Finset.mem_image.mpr ⟨⟨i, hi⟩, Finset.mem_univ _, he⟩)
  have h1 := (h.first r c).1
  rw [← e, h.left_of_taken r j hj, h.left_of_not r c hc', top_le_iff] at h1
  exact hd c h1

/-- The entry of round `r` is the one a stable sort by the least first puts at place `r`. -/
theorem sorted (hd : ∀ c, d c ≠ ⊤) (k : ℕ) (hk : k ≤ n) (B : Fin n → Fin n → Bool)
    (hB : ∀ a b, B a b = decide (d a < d b)) (i : Fin k) : sortedFrom B (i.castLE hk) = σ i := by
  have hR := StrictTotalBefore.of_key_then_position (fun a b : α => decide (a < b)) d
    (fun a => by simp) (fun a b c hab hbc => by
      simp only [decide_eq_true_eq] at hab hbc ⊢; exact lt_trans hab hbc)
    (fun a b => by simpa using lt_trichotomy a b)
  rw [sortedFrom_congr_later B (fun k k' => decide (d k < d k') || (decide (d k = d k') && decide (k < k'))) (fun a b hab => by
    rw [hB, decide_eq_false (not_lt.mpr hab.le), Bool.and_false, Bool.or_false])]
  refine hR.sortedFrom_eq_of_prefix hk (fun i => σ i) ?_ ?_ ?_ i
  · intro a b e
    by_contra hne
    rcases lt_or_gt_of_ne hne with hlt | hlt
    · exact h.fresh hd b (lt_of_lt_of_le b.isLt hk) a hlt e
    · exact h.fresh hd a (lt_of_lt_of_le a.isLt hk) b hlt e.symm
  · intro a b hab
    exact before_false a (σ b) fun j hj e => h.fresh hd b (lt_of_lt_of_le b.isLt hk) j (lt_trans hj hab) e
  · intro a p hp
    exact before_false a p fun j hj => hp ⟨j, lt_trans hj a.isLt⟩
where
  before_false (a : Fin k) (p : Fin n) (hp : ∀ j < (a : ℕ), σ j ≠ p) :
      (decide (d p < d (σ a)) || (decide (d p = d (σ a)) && decide (p < σ a))) = false := by
    have hσ : L a (σ a) = d (σ a) := h.left_of_not a _ fun j hj => h.fresh hd a (lt_of_lt_of_le a.isLt hk) j hj
    have h1 := h.first a p
    rw [hσ, h.left_of_not a p hp] at h1
    rw [decide_eq_false (not_lt.mpr h1.1), Bool.false_or, Bool.and_eq_false_iff]
    by_cases hlt : p < σ a
    · exact Or.inl (decide_eq_false (h1.2 hlt).ne')
    · exact Or.inr (decide_eq_false hlt)

end Rounds

end Cert.Nearest

end
-- ==== Proof.Select.lean ====
/- The rounds at the extended reals, read at an index: a round takes the first of the row's least distances left, and the
   product with the row that is one there is the point with that number. -/
module
public import proofs.«01_k».proof.Proof.Rounds
public import proofs.«01_k».proof.Proof.Nearest
public import Idealize.ShloMosaic.Lib.Pointwise
@[expose] public section
noncomputable section
namespace Cert.KernelIdeal.Rounds
open Cert.KernelIdeal Cert.KernelIdeal.Gen Idealize.ShloMosaic Cert.Nearest

theorem ofBits_inf : Ideal.ofBits .f32 0x7F800000#32 = ⊤ := by simp [Ideal.ofBits, Ideal.ieee]

theorem ofBits_2048 : Ideal.ofBits .f32 0x45000000#32 = (((2048 : ℕ) : ℝ) : EReal) := by
  simp [Ideal.ofBits, Ideal.ieee, -EReal.coe_mul]; norm_num

/-- A natural number as a value. -/
abbrev num (n : ℕ) : EReal := ((n : ℝ) : EReal)

theorem num_lt {a b : ℕ} : num a < num b ↔ a < b := by simp [num]
theorem num_le {a b : ℕ} : num a ≤ num b ↔ a ≤ b := by simp [num]
theorem num_inj {a b : ℕ} : num a = num b ↔ a = b := by simp [num]

theorem win_apply (c : ℕ) (v : FVec Ideal S256x2048 .f32) (p : Fin 256) (l : Fin 128) :
    win c v (ix2 p l) = v (ix2 p ⟨128 * (c % 16) + l, by omega⟩) := by
  pointwise [win]

/-- A small number's word, read signed. -/
theorem toInt_small (n : ℕ) (hn : n < 2048) : (BitVec.ofNat 32 n).toInt = n := by
  rw [BitVec.toInt_eq_toNat_of_lt, BitVec.toNat_ofNat]
  · congr 1; exact Nat.mod_eq_of_lt (by omega)
  · rw [BitVec.toNat_ofNat, Nat.mod_eq_of_lt (by omega)]; omega

theorem cols_apply (p : Fin 256) (c : Fin 2048) : (cols (F := Ideal)) (ix2 p c) = num c := by
  pointwise [cols]
  show (((BitVec.ofNat 32 c.val).toInt : ℝ) : EReal) = num c
  rw [toInt_small _ c.isLt]
  rfl

theorem laneMin_apply (v : FVec Ideal S256x128 .f32) (p : Fin 256) :
    laneMin v (ix2 p 0) = Finset.univ.fold min ⊤ fun l : Fin 128 => v (ix2 p l) := by
  pointwise [laneMin]
  rw [ofBits_inf]

/-- A row's least lane is at most every lane … -/
theorem laneMin_le (v : FVec Ideal S256x128 .f32) (p : Fin 256) (l : Fin 128) : laneMin v (ix2 p 0) ≤ v (ix2 p l) := by
  rw [laneMin_apply]
  exact (Finset.le_fold_min (c := Finset.univ.fold min ⊤ fun l : Fin 128 => v (ix2 p l))).mp le_rfl |>.2 l (Finset.mem_univ l)

/-- … and is one of them. -/
theorem laneMin_mem (v : FVec Ideal S256x128 .f32) (p : Fin 256) : ∃ l : Fin 128, laneMin v (ix2 p 0) = v (ix2 p l) := by
  obtain ⟨l, -, hl⟩ := Finset.exists_min_image Finset.univ (fun l : Fin 128 => v (ix2 p l)) ⟨0, Finset.mem_univ _⟩
  refine ⟨l, le_antisymm (laneMin_le v p l) ?_⟩
  rw [laneMin_apply]
  exact (Finset.le_fold_min _).mpr ⟨le_top, fun x hx => hl x hx⟩

/-- The column of lane `l` in chunk `k`. -/
abbrev col (k : ℕ) (l : Fin 128) (hk : k < 16) : Fin 2048 := ⟨128 * k + l, by omega⟩

/-- A truth value widened and read as a number. -/
theorem bit_apply (b : Prop) [Decidable b] :
    FloatOps.sitofp (F := Ideal) .f32 (BitVec.setWidth 32 (BitVec.ofBool (decide b))) = if b then 1 else 0 := by
  show ((((BitVec.setWidth 32 (BitVec.ofBool (decide b))).toInt : ℤ) : ℝ) : EReal) = _
  by_cases h : b
  · rw [decide_eq_true h, if_pos h, show (BitVec.setWidth 32 (BitVec.ofBool true)).toInt = 1 by decide]; norm_num
  · rw [decide_eq_false h, if_neg h, show (BitVec.setWidth 32 (BitVec.ofBool false)).toInt = 0 by decide]; norm_num

/-- What a lane holds after chunk `c`: the first least entry so far and its column. -/
theorem run_apply (dm : ℕ → FVec Ideal S256x128 .f32) (p : Fin 256) (l : Fin 128) (c : ℕ) (hc : c < 16) :
    ∃ k ≤ c, runMin dm c (ix2 p l) = dm k (ix2 p l) ∧ runCol dm c (ix2 p l) = num (128 * k + l)
      ∧ ∀ k' ≤ c, dm k (ix2 p l) ≤ dm k' (ix2 p l) ∧ (k' < k → dm k (ix2 p l) < dm k' (ix2 p l)) := by
  induction c with
  | zero =>
    refine ⟨0, le_rfl, rfl, ?_, fun k' hk' => ⟨?_, fun h => absurd h (Nat.not_lt_zero _)⟩⟩
    · show win 0 cols (ix2 p l) = _
      rw [win_apply, cols_apply]
    · rw [Nat.le_zero.mp hk']
  | succ c ih =>
    obtain ⟨k, hk, h1, h2, h3⟩ := ih (by omega)
    have e1 : runMin dm (c + 1) (ix2 p l) = min (dm (c + 1) (ix2 p l)) (runMin dm c (ix2 p l)) := rfl
    have e2 : runCol dm (c + 1) (ix2 p l)
        = Scalar.select (BitVec.ofBool (decide (dm (c + 1) (ix2 p l) < runMin dm c (ix2 p l))))
            (win (c + 1) cols (ix2 p l)) (runCol dm c (ix2 p l)) := rfl
    rw [e1, e2, h1]
    by_cases hlt : dm (c + 1) (ix2 p l) < dm k (ix2 p l)
    · refine ⟨c + 1, le_rfl, min_eq_left hlt.le, ?_, fun k' hk' => ?_⟩
      · rw [decide_eq_true hlt]
        show win (c + 1) cols (ix2 p l) = _
        rw [win_apply, cols_apply]
        show num (128 * ((c + 1) % 16) + l) = _
        rw [Nat.mod_eq_of_lt hc]
      · rcases Nat.lt_or_ge k' (c + 1) with h | h
        · have := lt_of_lt_of_le hlt (h3 k' (by omega)).1
          exact ⟨this.le, fun _ => this⟩
        · have : k' = c + 1 := by omega
          subst this
          exact ⟨le_rfl, fun h => absurd h (lt_irrefl _)⟩
    · refine ⟨k, by omega, min_eq_right (not_lt.mp hlt), ?_, fun k' hk' => ?_⟩
      · rw [decide_eq_false hlt]
        exact h2
      · rcases Nat.lt_or_ge k' (c + 1) with h | h
        · exact h3 k' (by omega)
        · have : k' = c + 1 := by omega
          subst this
          exact ⟨not_lt.mp hlt, fun h => by omega⟩

/-- A row of the chunks as one function of the column. -/
def row (dm : ℕ → FVec Ideal S256x128 .f32) (p : Fin 256) (c : Fin 2048) : EReal :=
  dm (c.val / 128) (ix2 p ⟨c.val % 128, Nat.mod_lt _ (by decide)⟩)

theorem row_col (dm : ℕ → FVec Ideal S256x128 .f32) (p : Fin 256) (k : ℕ) (l : Fin 128) (hk : k < 16) :
    row dm p (col k l hk) = dm k (ix2 p l) := by
  have h1 : (128 * k + l.val) / 128 = k := by omega
  have h2 : (128 * k + l.val) % 128 = l := by omega
  have h3 : (⟨(128 * k + l.val) % 128, Nat.mod_lt _ (by decide)⟩ : Fin 128) = l := Fin.ext h2
  show dm ((128 * k + l.val) / 128) (ix2 p ⟨(128 * k + l.val) % 128, _⟩) = _
  rw [h3, h1]

theorem eq_col (c : Fin 2048) : ∃ (k : ℕ) (l : Fin 128) (hk : k < 16), c = col k l hk :=
  ⟨c.val / 128, ⟨c.val % 128, Nat.mod_lt _ (by decide)⟩, by omega, Fin.ext (by show c.val = 128 * (c.val / 128) + c.val % 128; omega)⟩

/-- The lanes that do not attain the minimum give way to a number above every column. -/
def masked (rv ri : FVec Ideal S256x128 .f32) : FVec Ideal S256x128 .f32 :=
  select (cmpf .oeq rv (broadcastTo S256x128 (laneMin rv) broadcasts_S256x1_S256x128)) ri
    (broadcast S256x128 (Scalar.ofBits .f32 0x45000000#32))

theorem finish_eq (rv ri : FVec Ideal S256x128 .f32) : finish rv ri = laneMin (masked rv ri) := rfl

theorem masked_apply (rv ri : FVec Ideal S256x128 .f32) (p : Fin 256) (l : Fin 128) :
    masked rv ri (ix2 p l) = if rv (ix2 p l) = laneMin rv (ix2 p 0) then ri (ix2 p l) else num 2048 := by
  pointwise [masked]
  rw [ofBits_2048]

/-- The search finds the first of the row's least entries. -/
theorem first_apply (dm : ℕ → FVec Ideal S256x128 .f32) (p : Fin 256) :
    ∃ a : Fin 2048, IsFirst (row dm p) a ∧ first dm (ix2 p 0) = num a := by
  have hrun := fun l => run_apply dm p l 15 (by decide)
  obtain ⟨l0, hl0⟩ := laneMin_mem (runMin dm 15) p
  set m := laneMin (runMin dm 15) (ix2 p 0) with hm
  obtain ⟨M, hM, hle, l1, hl1⟩ : ∃ M, first dm (ix2 p 0) = M
      ∧ (∀ l, M ≤ if runMin dm 15 (ix2 p l) = m then runCol dm 15 (ix2 p l) else num 2048)
      ∧ ∃ l, M = if runMin dm 15 (ix2 p l) = m then runCol dm 15 (ix2 p l) else num 2048 := by
    have hf : first dm = laneMin (masked (runMin dm 15) (runCol dm 15)) := finish_eq (runMin dm 15) (runCol dm 15)
    refine ⟨_, congrFun hf _, fun l => ?_, ?_⟩
    · rw [hm, ← masked_apply]
      exact laneMin_le _ p l
    · obtain ⟨l, hl⟩ := laneMin_mem (masked (runMin dm 15) (runCol dm 15)) p
      exact ⟨l, by rw [hm, ← masked_apply]; exact hl⟩
  rw [hM]
  have hcol : ∀ l, runMin dm 15 (ix2 p l) = m → M ≤ runCol dm 15 (ix2 p l) := fun l hl => by
    have := hle l
    rwa [if_pos hl] at this
  obtain ⟨k0, hk0, -, h02, -⟩ := hrun l0
  have hlt : M < num 2048 :=
    lt_of_le_of_lt (hcol l0 hl0.symm) (by rw [h02]; exact num_lt.mpr (by omega))
  have hl1m : runMin dm 15 (ix2 p l1) = m := by
    by_contra hne
    rw [if_neg hne] at hl1
    exact absurd hl1 hlt.ne
  rw [if_pos hl1m] at hl1
  obtain ⟨k1, hk1, h11, h12, h13⟩ := hrun l1
  refine ⟨col k1 l1 (by omega), fun c => ?_, hl1.trans h12⟩
  obtain ⟨k, l, hk, rfl⟩ := eq_col c
  rw [row_col, row_col, ← h11, hl1m]
  obtain ⟨kl, hkl, hl1', hl2', hl3'⟩ := hrun l
  have hge : m ≤ dm k (ix2 p l) :=
    le_trans (hm ▸ laneMin_le (runMin dm 15) p l) (hl1' ▸ (hl3' k (by omega)).1)
  refine ⟨hge, fun hc => lt_of_le_of_ne hge fun he => ?_⟩
  have hml : runMin dm 15 (ix2 p l) = m :=
    le_antisymm (by rw [hl1', he]; exact (hl3' k (by omega)).1) (laneMin_le (runMin dm 15) p l)
  have hkk : kl ≤ k := by
    by_contra hcon
    exact absurd (hl3' k (by omega)).2 fun h => absurd (h (by omega)) (by rw [← hl1', hml, he]; exact lt_irrefl _)
  have h5 := hcol l hml
  rw [hl1, h12, hl2', num_le] at h5
  have h6 : 128 * k + l.val < 128 * k1 + l1.val := hc
  omega

/-- Chunk `c` holds the column `f` where its number is `f`'s. -/
theorem sel_apply (f : FVec Ideal S256x1 .f32) (p : Fin 256) (a : Fin 2048) (hf : f (ix2 p 0) = num a) (k : ℕ)
    (l : Fin 128) (hk : k < 16) : sel f k (ix2 p l) = BitVec.ofBool (decide (col k l hk = a)) := by
  pointwise [sel]
  rw [hf, win_apply, cols_apply]
  congr 1
  simp only [Nat.mod_eq_of_lt hk, Fin.ext_iff, num_inj]

/-- The one-hot row, chunk by chunk. -/
theorem hot_apply (f : FVec Ideal S256x1 .f32) (p : Fin 256) (a : Fin 2048) (hf : f (ix2 p 0) = num a) (k : ℕ)
    (l : Fin 128) (hk : k < 16) : hot f k (ix2 p l) = if col k l hk = a then 1 else 0 := by
  pointwise [hot]
  rw [sel_apply f p a hf k l hk]
  exact bit_apply _

/-- The pieces of a row put together from chunks. -/
theorem concat_chunks (g : ℕ → FVec Ideal S256x128 .f32) (p : Fin 256) (c0 : Fin 2048) :
    ∀ (k q : ℕ) (hs) (c : ℕ) (hc),
      concatenateAt S256x2048 1 (ix2 p c0) ((List.range' q k).map fun i => (⟨S256x128, g i⟩ : (s : Shape) × (s.Idx → EReal))) hs c hc
        = g (q + c / 128) (ix2 p ⟨c % 128, Nat.mod_lt _ (by decide)⟩) := by
  intro k
  induction k with
  | zero => intro q hs c hc; exact absurd hc (Nat.not_lt_zero _)
  | succ k ih =>
    intro q hs c hc
    cases k with
    | zero =>
      have hc' : c < 128 := hc
      refine (concatenateAt_singleton (s := S256x128) 1 (ix2 p c0) (g q) hs c hc).trans ?_
      pointwise
      simp only [Nat.div_eq_of_lt hc', Nat.mod_eq_of_lt hc', Nat.add_zero]
    | succ k =>
      refine (concatenateAt_cons (s := S256x128) 1 (ix2 p c0) (g q) _ _ hs c hc).trans ?_
      split
      · rename_i hlt
        have hc' : c < 128 := hlt
        pointwise
        simp only [Nat.div_eq_of_lt hc', Nat.mod_eq_of_lt hc', Nat.add_zero]
      · rename_i hge
        have hc' : ¬ c < 128 := hge
        refine (ih (q + 1) _ (c - 128) _).trans ?_
        have h1 : q + 1 + (c - 128) / 128 = q + c / 128 := by omega
        have h2 : (c - 128) % 128 = c % 128 := by omega
        simp only [h1, h2]

/-- The one-hot row whole. -/
theorem hotRow_apply (f : FVec Ideal S256x1 .f32) (p : Fin 256) (a : Fin 2048) (hf : f (ix2 p 0) = num a) (c : Fin 2048) :
    hotRow f (ix2 p c) = if c = a then 1 else 0 := by
  refine (concatenate_apply S256x2048 1 _ _ (ix2 p c)).trans ((concat_chunks (hot f) p c 16 0 _ c.val _).trans ?_)
  obtain ⟨k, l, hk, rfl⟩ := eq_col c
  rw [← hot_apply f p a hf k l hk, Nat.zero_add]
  exact row_col (hot f) p k l hk

theorem hotWhole_apply (f : FVec Ideal S256x1 .f32) (p : Fin 256) (a : Fin 2048) (hf : f (ix2 p 0) = num a) (c : Fin 2048) :
    hotWhole f (ix2 p c) = if c = a then 1 else 0 := by
  pointwise [hotWhole]
  rw [hf, cols_apply]
  refine (bit_apply _).trans ?_
  simp only [num_inj, Fin.ext_iff]

/-- The product with a one-hot row is the point it marks. -/
theorem take_apply (oh : FVec Ideal S256x2048 .f32) (xa : FVec Ideal S2048x16 .f32) (p : Fin 256) (a : Fin 2048)
    (hoh : ∀ c, oh (ix2 p c) = if c = a then 1 else 0) (e : Fin 16) : take oh xa (ix2 p e) = xa (ix2 a e) := by
  pointwise [take]
  rw [Finset.sum_eq_single a]
  · rw [hoh, if_pos rfl, one_mul]
  · intro c _ hc
    rw [hoh, if_neg hc, zero_mul]
  · intro h; exact absurd (Finset.mem_univ a) h

/-- The squared distance of point `p` of the block to point `c`. -/
theorem dist_apply (v0 : Vec Ideal S1x256x16 .f32) (v2 : Vec Ideal S1x2048x16 .f32) (p : Fin 256) (c : Fin 2048) :
    dist v0 v2 (ix2 p c) = ∑ x : Fin 16, v0 (ix3 0 p x) * v0 (ix3 0 p x)
      + Ideal.ofBits .f32 0xC0000000#32 * ∑ x : Fin 16, v0 (ix3 0 p x) * v2 (ix3 0 c x)
      + ∑ x : Fin 16, v2 (ix3 0 c x) * v2 (ix3 0 c x) := by
  pointwise [dist, pts, allPts]

/-- The distances left, row by row, follow the rounds. -/
theorem rounds (D : FVec Ideal S256x2048 .f32) (p : Fin 256) :
    ∃ σ : ℕ → Fin 2048, Rounds (fun c => D (ix2 p c)) (fun r => row (left D r) p) σ
      ∧ ∀ r, pick D r (ix2 p 0) = num (σ r) := by
  choose σ h1 h2 using fun r => first_apply (left D r) p
  refine ⟨σ, ⟨fun c => ?_, fun r c => ?_, h1⟩, h2⟩
  · obtain ⟨k, l, hk, rfl⟩ := eq_col c
    rw [row_col]
    show win k D (ix2 p l) = _
    rw [win_apply]
    simp only [Nat.mod_eq_of_lt hk]
  · obtain ⟨k, l, hk, rfl⟩ := eq_col c
    rw [row_col, row_col]
    show Scalar.select (sel (first (left D r)) k (ix2 p l)) (Ideal.ofBits .f32 0x7F800000#32) (left D r k (ix2 p l)) = _
    rw [sel_apply _ p (σ r) (h2 r) k l hk, ofBits_inf, Scalar.select_decide]

end Cert.KernelIdeal.Rounds
end
-- ==== Proof.Block.lean ====
/- What the body leaves in its output block, read at an index. -/
module
public import proofs.«01_k».proof.Proof.Select
public import Idealize.ShloMosaic.Lib.Pipeline.Value
@[expose] public section
noncomputable section
namespace Cert.KernelIdeal.Rounds
open Cert.KernelIdeal Cert.KernelIdeal.Gen Idealize.ShloMosaic Cert.Nearest

/-- The columns the rounds take on row `p`. -/
def near (D : FVec Ideal S256x2048 .f32) (p : Fin 256) : ℕ → Fin 2048 := Classical.choose (rounds D p)

theorem near_rounds (D : FVec Ideal S256x2048 .f32) (p : Fin 256) :
    Rounds (fun c => D (ix2 p c)) (fun r => row (left D r) p) (near D p) := (Classical.choose_spec (rounds D p)).1

theorem pick_apply (D : FVec Ideal S256x2048 .f32) (p : Fin 256) (r : ℕ) : pick D r (ix2 p 0) = num (near D p r) :=
  (Classical.choose_spec (rounds D p)).2 r

theorem pts_apply (v0 : Vec Ideal S1x256x16 .f32) (p : Fin 256) (e : Fin 16) : pts v0 (ix2 p e) = v0 (ix3 0 p e) := by
  pointwise [pts]

theorem allPts_apply (v2 : Vec Ideal S1x2048x16 .f32) (c : Fin 2048) (e : Fin 16) : allPts v2 (ix2 c e) = v2 (ix3 0 c e) := by
  pointwise [allPts]

theorem edge_apply (v0 : Vec Ideal S1x256x16 .f32) (v2 : Vec Ideal S1x2048x16 .f32) (r : ℕ) (p : Fin 256) (e : Fin 16) :
    edge v0 v2 r (ix2 p e) = v2 (ix3 0 (near (dist v0 v2) p r) e) - v0 (ix3 0 p e) := by
  pointwise [edge]
  rw [take_apply _ _ p _ (hotRow_apply _ p _ (pick_apply (dist v0 v2) p r)), pts_apply, allPts_apply]

theorem edgeLast_apply (v0 : Vec Ideal S1x256x16 .f32) (v2 : Vec Ideal S1x2048x16 .f32) (p : Fin 256) (e : Fin 16) :
    edgeLast v0 v2 (ix2 p e) = v2 (ix3 0 (near (dist v0 v2) p 19) e) - v0 (ix3 0 p e) := by
  pointwise [edgeLast]
  rw [take_apply _ _ p _ (hotWhole_apply _ p _ (pick_apply (dist v0 v2) p 19)), pts_apply, allPts_apply]

/-- Column `q` of row `p` of the output block: per round sixteen columns of the point, then sixteen of the
    neighbour less the point. -/
def out (v0 : Vec Ideal S1x256x16 .f32) (v2 : Vec Ideal S1x2048x16 .f32) (p : Fin 256) (q : ℕ) : EReal :=
  if q / 16 % 2 = 0 then v0 (ix3 0 p ⟨q % 16, Nat.mod_lt _ (by decide)⟩)
  else v2 (ix3 0 (near (dist v0 v2) p (q / 32)) ⟨q % 16, Nat.mod_lt _ (by decide)⟩)
    - v0 (ix3 0 p ⟨q % 16, Nat.mod_lt _ (by decide)⟩)

/-- The block as an array. -/
def blockOut (v0 : Vec Ideal S1x256x16 .f32) (v2 : Vec Ideal S1x2048x16 .f32) : S1x256x640.Idx → Elt Ideal .f32 :=
  fun i => out v0 v2 (i 1) (i 2).val

/-- What a store leaves, if its rows are the block's. -/
theorem piece_agrees (v0 : Vec Ideal S1x256x16 .f32) (v2 : Vec Ideal S1x2048x16 .f32) (k : ℕ) (hk : k < 40)
    (w : FVec Ideal S256x16 .f32) (h : ∀ (p : Fin 256) (e : Fin 16), w (ix2 p e) = out v0 v2 p (16 * k + e))
    (x : (piece k w).1.shape.Idx) : (piece k w).2 x = blockOut v0 v2 ((piece k w).1.emb x) := by
  have hx1 : (x 1).val < 256 := (x 1).isLt
  have hx2 : (x 2).val < 16 := (x 2).isLt
  have e1 : (piece k w).2 x = w (ix2 ⟨(x 1).val, hx1⟩ ⟨(x 2).val, hx2⟩) :=
    Rect.payAlong_consLift (r := Rect.unit (s := S256x640) ![0, 16 * (k % 40)] S256x16.size (inbs k))
      S1x256x640.size rfl (fun i => match i with | ⟨0, _⟩ => rfl | ⟨1, _⟩ => rfl) w (numel_rect k) x _ (fun i => match i with | ⟨0, _⟩ => rfl | ⟨1, _⟩ => rfl)
  rw [e1, h]
  have f1 : ((piece k w).1.emb x) 1 = ⟨(x 1).val, hx1⟩ := Fin.ext (by
    rw [Rect.emb_apply]
    show 0 + 0 + 1 * (x 1).val = (x 1).val
    omega)
  have f2 : (((piece k w).1.emb x) 2).val = 16 * k + (x 2).val := by
    rw [Rect.emb_apply]
    show 0 + 16 * (k % 40) + 1 * (x 2).val = 16 * k + (x 2).val
    omega
  show out v0 v2 _ _ = out v0 v2 (((piece k w).1.emb x) 1) (((piece k w).1.emb x) 2).val
  rw [f1, f2]
  rfl

theorem pieces_agree (v0 : Vec Ideal S1x256x16 .f32) (v2 : Vec Ideal S1x2048x16 .f32) :
    ∀ pc ∈ pieces v0 v2, ∀ x : pc.1.shape.Idx, pc.2 x = blockOut v0 v2 (pc.1.emb x) := by
  have hp : ∀ n < 20, ∀ x, (piece (F := Ideal) (2 * n) (pts v0)).2 x = blockOut v0 v2 ((piece (F := Ideal) (2 * n) (pts v0)).1.emb x) := fun n hn =>
    piece_agrees v0 v2 _ (by omega) _ fun p e => by
      rw [pts_apply, out, if_pos (by omega)]
      congr 2
      exact Fin.ext (by show e.val = (16 * (2 * n) + e.val) % 16; omega)
  have he : ∀ n < 20, ∀ w : FVec Ideal S256x16 .f32,
      (∀ (p : Fin 256) (e : Fin 16), w (ix2 p e) = v2 (ix3 0 (near (dist v0 v2) p n) e) - v0 (ix3 0 p e)) →
      ∀ x, (piece (2 * n + 1) w).2 x = blockOut v0 v2 ((piece (2 * n + 1) w).1.emb x) := fun n hn w hw =>
    piece_agrees v0 v2 _ (by omega) _ fun p e => by
      have h1 : (16 * (2 * n + 1) + e.val) / 32 = n := by omega
      have h2 : (⟨(16 * (2 * n + 1) + e.val) % 16, Nat.mod_lt _ (by decide)⟩ : Fin 16) = e :=
        Fin.ext (by show (16 * (2 * n + 1) + e.val) % 16 = e.val; omega)
      rw [hw, out, if_neg (by omega), h1, h2]
  have hpairs : ∀ n ≤ 20, ∀ pc ∈ pairs v0 v2 n, ∀ x : pc.1.shape.Idx, pc.2 x = blockOut v0 v2 (pc.1.emb x) := by
    intro n
    induction n with
    | zero => intro _ pc hpc; exact absurd hpc List.not_mem_nil
    | succ n ih =>
      intro hn pc hpc
      rcases List.mem_cons.mp hpc with rfl | hpc
      · exact he n (by omega) _ (edge_apply v0 v2 n)
      rcases List.mem_cons.mp hpc with rfl | hpc
      · exact hp n (by omega)
      · exact ih (by omega) pc hpc
  intro pc hpc
  rcases List.mem_cons.mp hpc with rfl | hpc
  · exact he 19 (by omega) _ (edgeLast_apply v0 v2)
  rcases List.mem_cons.mp hpc with rfl | hpc
  · exact hp 19 (by omega)
  · exact hpairs 19 (by omega) pc hpc

theorem zero3 : (![0, 0, 0] : Fin 3 → ℕ) = fun _ => 0 := by decide

/-- The body's output block, from its input blocks. -/
theorem out0_apply (c : Dev nD) (i : grid0.Coords) (arg2 : Memref sig .tc .vmem S1x256x16 .f32) (harg2 : arg2.IsWhole)
    (arg3 : Memref sig .tc .vmem S1x2048x16 .f32) (harg3 : arg3.IsWhole) (arg4 : Memref sig .tc .vmem S1x256x640 .f32)
    (harg4 : arg4.IsWhole) (x0 : Vec Ideal S1x256x16 .f32) (x1 : Vec Ideal S1x2048x16 .f32) :
    out0_A_2 c i arg2 harg2 arg3 harg3 arg4 harg4 x0 x1 = blockOut x0 x1 := by
  have hld0 : ld0 arg2 harg2 x0 = x0 := by
    rw [ld0, View.readAt_eq_ld, harg2.read_unread]
    exact View.ld_unit_zero zero3 _ _
  have hld1 : ld1 arg3 harg3 x1 = x1 := by
    rw [ld1, View.readAt_eq_ld, harg3.read_unread]
    exact View.ld_unit_zero zero3 _ _
  funext y
  have hc := cover0_A_2 c i arg2 harg2 arg3 harg3 arg4 harg4 x0 x1 y
  rw [out0_A_2, View.read_writes_junk_apply_eq_canon]
  refine View.canon_apply_of_pieces _ _ ?_ y hc
  rw [run_eq, hld0, hld1]
  exact pieces_agree x0 x1

end Cert.KernelIdeal.Rounds
end
-- ==== Proof.Spec.lean ====
/- What both programs compute, in numbers: the squared distances of a batch's points, a point's neighbours in order of
   distance (a tie to the lower number), and the point beside each neighbour's difference from it. -/
module

public import proofs.«01_k».proof.Proof.Nearest
public import Idealize.ShloMosaic.Lib.Pointwise

@[expose] public section

noncomputable section

namespace Cert.Spec

open Idealize.ShloMosaic

/-- The input: batches of points. -/
abbrev Points : Type := (⟨3, ![8, 2048, 16]⟩ : Shape).Idx → EReal

/-- The squared distance of points `i` and `c` of batch `b`. -/
def dist (x : Points) (b : Fin 8) (i c : Fin 2048) : EReal :=
  ∑ e : Fin 16, x (ix3 b i e) * x (ix3 b i e) + Ideal.ofBits .f32 0xC0000000#32 * ∑ e : Fin 16, x (ix3 b i e) * x (ix3 b c e)
    + ∑ e : Fin 16, x (ix3 b c e) * x (ix3 b c e)

/-- The number of the neighbour at place `j` of point `i`. -/
def near (x : Points) (b : Fin 8) (i : Fin 2048) (j : Fin 20) : Fin 2048 :=
  sortedFrom (fun a c => decide (dist x b i a < dist x b i c)) (j.castLE (by decide))

/-- Entry `l` of edge `j` of point `i`. -/
def edge (x : Points) (b : Fin 8) (i : Fin 2048) (j : Fin 20) (l : Fin 32) : EReal :=
  if h : l.val < 16 then x (ix3 b i ⟨l.val, h⟩)
  else x (ix3 b (near x b i j) ⟨l.val - 16, by omega⟩) - x (ix3 b i ⟨l.val - 16, by omega⟩)

theorem ofBits_neg_two : Ideal.ofBits .f32 0xC0000000#32 = ((-2 : ℝ) : EReal) := by
  simp [Ideal.ofBits, Ideal.ieee, -EReal.coe_mul, -EReal.coe_neg]; norm_num

/-- A sum of real products is real. -/
theorem sum_coe (f : Fin 16 → ℝ) : ∑ e : Fin 16, ((f e : ℝ) : EReal) = ((∑ e : Fin 16, f e : ℝ) : EReal) := by
  induction (Finset.univ : Finset (Fin 16)) using Finset.induction_on with
  | empty => simp
  | insert a s ha ih => rw [Finset.sum_insert ha, Finset.sum_insert ha, ih, EReal.coe_add]

/-- Distances of finite points are below ⊤. -/
theorem dist_ne_top (x : Points) (hx : ∀ i, x i ≠ ⊤ ∧ x i ≠ ⊥) (b : Fin 8) (i c : Fin 2048) : dist x b i c ≠ ⊤ := by
  obtain ⟨y, rfl⟩ : ∃ y : (⟨3, ![8, 2048, 16]⟩ : Shape).Idx → ℝ, x = fun i => ((y i : ℝ) : EReal) :=
    ⟨fun i => (x i).toReal, funext fun i => (EReal.coe_toReal (hx i).1 (hx i).2).symm⟩
  unfold dist
  simp only [← EReal.coe_mul, sum_coe, ofBits_neg_two, ← EReal.coe_add]
  exact EReal.coe_ne_top _

end Cert.Spec

end
-- ==== Proof.Array.lean ====
/- From one grid point's block to the kernel's result: the array after the region, its reshape, the run. -/
module

public import proofs.«01_k».proof.Proof.Block
public import proofs.«01_k».proof.Proof.Spec
public import Idealize.ShloMosaic.Lib.Pipeline.Value
public import Idealize.ShloMosaic.Lib.Pipeline.ValueKit.Geometry
public import Idealize.ShloMosaic.Lib.StableHlo.Run

@[expose] public section

noncomputable section

namespace Cert.KernelIdeal.Whole

open Idealize.ShloMosaic Idealize.ShloMosaic.TcCoe Idealize.SL.Sem
open Cert.KernelIdeal Cert.KernelIdeal.Gen Cert.KernelIdeal.Rounds

variable (m : (ℓ : Loc nD τ sig) → Buf (Elt Ideal) ℓ) (ρ : Dev nD → PrngReg)

/-- The kernel's output array: 20 edges of 32 numbers side by side in a row. -/
def rows (x : Spec.Points) : S8x2048x640.Idx → EReal := fun i =>
  Spec.edge x (i 0) (i 1) ⟨(i 2).val / 32, by have := (i 2).isLt; simp at this; omega⟩
    ⟨(i 2).val % 32, Nat.mod_lt _ (by decide)⟩

/-- Each window's block index at a grid point. -/
theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, 0, 0] :=
  (by decide +kernel : ∀ t : Fin grid0.N, _)
theorem idx2 : ∀ t : Fin cfg0.N, win0_2.index t = ![(grid0.coords t 0).val, (grid0.coords t 1).val, 0] :=
  (by decide +kernel : ∀ t : Fin grid0.N, _)

/-- The grid point's batch, and the number of a row of its block. -/
def batch (t : Fin cfg0.N) : Fin 8 := grid0.coords t 0
def rowAt (t : Fin cfg0.N) (p : Fin 256) : Fin 2048 :=
  ⟨(grid0.coords t 1).val * 256 + p.val, by have : (grid0.coords t 1).val < 8 := (grid0.coords t 1).isLt; omega⟩

/-- The first window's block is the point's 256 rows. -/
theorem iblk0_apply (c : Dev nD) (t : Fin cfg0.N) (p : Fin 256) (e : Fin 16) :
    iblk m c 0 t (ix3 0 p e) = m ((c : Thread nD τ).loc main_arg0) (ix3 (batch t) (rowAt t p) e) := by
  show V m c main_arg0 (((cfg0.win 0).blk t).view.emb (ix3 0 p e)) = _
  rw [V_main_arg0]
  refine congrArg _ (funext fun a => Fin.ext ?_)
  have h := idx0 t
  match a with
  | ⟨0, _⟩ =>
    show win0_0.index t (0 : Fin 3) * 1 + 1 * 0 = (grid0.coords t 0).val
    rw [h]; simp
  | ⟨1, _⟩ =>
    show win0_0.index t (1 : Fin 3) * 256 + 1 * p.val = (grid0.coords t 1).val * 256 + p.val
    rw [h]; simp
  | ⟨2, _⟩ =>
    show win0_0.index t (2 : Fin 3) * 16 + 1 * e.val = e.val
    rw [h]; simp

/-- The second window's block is the point's batch. -/
theorem iblk1_apply (c : Dev nD) (t : Fin cfg0.N) (p : Fin 2048) (e : Fin 16) :
    iblk m c 1 t (ix3 0 p e) = m ((c : Thread nD τ).loc main_arg0) (ix3 (batch t) p e) := by
  show V m c main_arg0 (((cfg0.win 1).blk t).view.emb (ix3 0 p e)) = _
  rw [V_main_arg0]
  refine congrArg _ (funext fun a => Fin.ext ?_)
  have h := idx1 t
  match a with
  | ⟨0, _⟩ =>
    show win0_1.index t (0 : Fin 3) * 1 + 1 * 0 = (grid0.coords t 0).val
    rw [h]; simp
  | ⟨1, _⟩ =>
    show win0_1.index t (1 : Fin 3) * 2048 + 1 * p.val = p.val
    rw [h]; simp
  | ⟨2, _⟩ =>
    show win0_1.index t (2 : Fin 3) * 16 + 1 * e.val = e.val
    rw [h]; simp

/-- A block whose two inputs are read off `x` holds the edges of its rows. -/
theorem out_eq_edge (x : Spec.Points) (hx : ∀ i, x i ≠ ⊤ ∧ x i ≠ ⊥) (b : Fin 8) (f : Fin 256 → Fin 2048)
    (v0 : Vec Ideal S1x256x16 .f32) (v2 : Vec Ideal S1x2048x16 .f32)
    (h0 : ∀ p e, v0 (ix3 0 p e) = x (ix3 b (f p) e)) (h2 : ∀ p e, v2 (ix3 0 p e) = x (ix3 b p e))
    (p : Fin 256) (q : ℕ) (hq : q < 640) :
    out v0 v2 p q = Spec.edge x b (f p) ⟨q / 32, by omega⟩ ⟨q % 32, Nat.mod_lt _ (by decide)⟩ := by
  have hd : ∀ c, dist v0 v2 (ix2 p c) = Spec.dist x b (f p) c := fun c => by
    rw [dist_apply]; simp only [h0, h2]; rfl
  have hn : near (dist v0 v2) p (q / 32) = Spec.near x b (f p) ⟨q / 32, by omega⟩ := by
    have hr := near_rounds (dist v0 v2) p
    simp only [hd] at hr
    exact (hr.sorted (fun c => Spec.dist_ne_top x hx b (f p) c) 20 (by decide) _ (fun _ _ => rfl)
      ⟨q / 32, by omega⟩).symm
  unfold out Spec.edge
  by_cases h : q / 16 % 2 = 0
  · rw [if_pos h, dif_pos (by show q % 32 < 16; omega), h0]
    congr 2; apply Fin.ext; show q % 16 = q % 32; omega
  · have e : q % 32 - 16 = q % 16 := by omega
    rw [if_neg h, dif_neg (by show ¬ q % 32 < 16; omega), h0, h2, hn]
    simp only [e]

variable (hx : ∀ c : Dev nD, ∀ i : (⟨3, ![8, 2048, 16]⟩ : Shape).Idx,
  m ((c : Thread nD τ).loc main_arg0) i ≠ (⊤ : EReal) ∧ m ((c : Thread nD τ).loc main_arg0) i ≠ (⊥ : EReal))
include hx

/-- The output array after the region. -/
theorem final (c : Dev nD) : (dats m 0 c).arrAt 2 cfg0.N = rows (m ((c : Thread nD τ).loc main_arg0)) := by
  refine (dats m 0 c).arrAt_eq_of_covers 2 _ (by decide +kernel) fun t hf y => ?_
  show (dats m 0 c).after 2 t y = _
  rw [after0_2]
  have e := out0_apply c (grid0.coords t) (ms0_0 t) (hs0_0 t) (ms0_1 t) (hs0_1 t) (ms0_2 t) (hs0_2 t) (iblk m c 0 t) (iblk m c 1 t)
  show out0_A_2 c (grid0.coords t) (ms0_0 t) (hs0_0 t) (ms0_1 t) (hs0_1 t) (ms0_2 t) (hs0_2 t) (iblk m c 0 t) (iblk m c 1 t) y = _
  rw [e]
  have h := idx2 t
  have hy0 : (y 0).val < 1 := (y 0).isLt
  have hy1 : (y 1).val < 256 := (y 1).isLt
  have hy2 : (y 2).val < 640 := (y 2).isLt
  have f0 : (((cfg0.win 2).blk t).view.emb y) 0 = batch t := Fin.ext (by
    show win0_2.index t (0 : Fin 3) * 1 + 1 * (y 0).val = (grid0.coords t 0).val
    rw [h]; simp)
  have f1 : (((cfg0.win 2).blk t).view.emb y) 1 = rowAt t ⟨(y 1).val, hy1⟩ := Fin.ext (by
    show win0_2.index t (1 : Fin 3) * 256 + 1 * (y 1).val = (grid0.coords t 1).val * 256 + (y 1).val
    rw [h]; simp)
  have f2 : ((((cfg0.win 2).blk t).view.emb y) 2).val = (y 2).val := by
    show win0_2.index t (2 : Fin 3) * 640 + 1 * (y 2).val = (y 2).val
    rw [h]; simp
  refine (out_eq_edge _ (hx c) (batch t) (rowAt t) _ _ (iblk0_apply m c t) (iblk1_apply m c t) ⟨(y 1).val, hy1⟩ (y 2).val hy2).trans ?_
  unfold rows
  simp only [f0, f1, f2]

/-- The kernel's result: entry `l` of edge `j` of point `i` of batch `b`. -/
def edges (x : Spec.Points) : S8x2048x20x32.Idx → EReal := fun i => Spec.edge x (i 0) (i 1) (i 2) (i 3)

omit hx in
/-- The last reshape takes rows of 640 apart into 20 edges of 32. -/
theorem split (x : Spec.Points) :
    shapeCast S8x2048x20x32 (rows x) shapeCasts_S8x2048x640_S8x2048x20x32 = edges x := by
  funext i
  idx_vars i
  pointwise []
  show Spec.edge x i0 i1 ⟨(i2.val * 32 + i3.val) / 32, _⟩ ⟨(i2.val * 32 + i3.val) % 32, _⟩ = Spec.edge x i0 i1 i2 i3
  congr 1 <;> apply Fin.ext
  · show (i2.val * 32 + i3.val) / 32 = i2.val
    omega
  · show (i2.val * 32 + i3.val) % 32 = i3.val
    omega

omit hx in
/-- What the reshape reads: the region's output array. -/
theorem entered (c : Dev nD) :
    Pipeline.withArrays spec0 c (V0 m c) (fun w => (dats m 0 c).arrAt w cfg0.N) (Proc.devRef .tc main_v0)
      = (dats m 0 c).arrAt 2 cfg0.N := by
  refine Pipeline.withArrays_arr_shared spec0 c (V0 m c) (fun w => (dats m 0 c).arrAt w cfg0.N) (fun w w' hne e => ?_) 2
  have h : w = 0 ∨ w = 1 := by revert w w'; decide
  rcases h with rfl | rfl
  · exact ((dats m 0 c).arrAt_in 0 rfl _).trans (A_eq m c 0)
  · exact ((dats m 0 c).arrAt_in 1 rfl _).trans (A_eq m c 1)

/-- The run of the kernel: its result and its argument. -/
theorem run : θ_run defs (onTc (τ := τ) (main (F := Ideal))) ⟨m, fun _ => 0, ρ⟩ fun r => ∀ c : Dev nD,
      r.2.mem ((c : Thread nD τ).loc main_v1) = edges (m ((c : Thread nD τ).loc main_arg0))
      ∧ r.2.mem ((c : Thread nD τ).loc main_arg0) = m ((c : Thread nD τ).loc main_arg0) := by
  refine (θ_run defs _ _).mono (fun r h c => ⟨?_, ?_⟩) (run_main m ρ)
  · refine ((h c).2 main_v1 (by decide)).trans ?_
    unfold Pipeline.afterTail₀
    simp only [List.flatten_cons, List.flatten_nil, List.append_nil]
    unfold hostOps1
    after_results
    show shapeCast S8x2048x20x32 (Pipeline.withArrays spec0 c (V0 m c) (fun w => (dats m 0 c).arrAt w cfg0.N)
      (Proc.devRef .tc main_v0)) shapeCasts_S8x2048x640_S8x2048x20x32 = _
    rw [entered m c, final m hx c]
    exact split _
  · exact ((h c).1 1).trans (((dats m 0 c).arrAt_in 1 rfl _).trans ((A_eq m c 1).trans (V_main_arg0 m c)))

end Cert.KernelIdeal.Whole

end
-- ==== Proof.Reference.lean ====
/- The reference's result read at an index: it is the edge of the specification. -/
module

public import proofs.«01_k».proof.Proof.Spec
public import proofs.«01_k».proof.Proof.Gen.ReferenceIdeal.Read
public import Idealize.ShloMosaic.Lib.WordCmp

@[expose] public section

noncomputable section

namespace Cert.ReferenceIdeal.Edges

open Idealize.ShloMosaic Cert.ReferenceIdeal Cert.ReferenceIdeal.Gen Cert.ReferenceIdeal.Read

variable (x : Spec.Points) (b : Fin 8) (i : Fin 2048)

/-! ## Distances -/

/-- A point's sum of squares. -/
theorem square_apply : val_main_v5 (F := Ideal) x (ix2 b i) = ∑ e : Fin 16, x (ix3 b i e) * x (ix3 b i e) := by
  unfold val_main_v5 val_main_v4 val_main_cst_0
  pointwise []

/-- Two points' inner product. -/
theorem dot_apply (c : Fin 2048) : val_main_v1 (F := Ideal) x (ix3 b i c) = ∑ e : Fin 16, x (ix3 b i e) * x (ix3 b c e) := by
  unfold val_main_v1 val_main_v0
  pointwise [dot_S8x2048x16_S8x16x2048_S8x2048x2048_2_1_1_2_0_0]

/-- What the reference sorts: the distances times −1. -/
theorem negDist_apply (c : Fin 2048) :
    val_main_v13 (F := Ideal) x (ix3 b i c) = Ideal.ofBits .f32 0xBF800000#32 * Spec.dist x b i c := by
  unfold val_main_v13 val_main_v12 val_main_v11 val_main_v10 val_main_v9 val_main_v8 val_main_v7 val_main_v6 val_main_v3
    val_main_v2 val_main_cst val_main_cst_1
  pointwise []
  rw [square_apply, square_apply, dot_apply]
  rfl

/-! ## The neighbours -/

theorem ofBits_neg_one : Ideal.ofBits .f32 0xBF800000#32 = ((-1 : ℝ) : EReal) := by
  simp [Ideal.ofBits, Ideal.ieee, -EReal.coe_mul, -EReal.coe_neg]; norm_num

/-- The greater of two numbers times −1 is the lesser number. -/
theorem neg_gt (s t : EReal) :
    (FloatOps.cmpfTotal (F := Ideal) (φ := .f32) .gt (Ideal.ofBits .f32 0xBF800000#32 * s) (Ideal.ofBits .f32 0xBF800000#32 * t) == 1#1)
      = decide (s < t) := by
  have h : ∀ u : EReal, Ideal.ofBits .f32 0xBF800000#32 * u = -u := fun u => by
    rw [ofBits_neg_one, show ((-1 : ℝ) : EReal) = -1 by norm_num, neg_one_mul]
  rw [h, h]
  show (BitVec.ofBool (decide (-s > -t)) == 1#1) = _
  by_cases e : s < t
  · rw [decide_eq_true e, decide_eq_true (EReal.neg_lt_neg_iff.mpr e)]; rfl
  · rw [decide_eq_false e, decide_eq_false (fun h => e (EReal.neg_lt_neg_iff.mp h))]; rfl

/-- A batch's row of a three-axis array, at its place `k`. -/
theorem along_apply (j k : Fin 2048) : (ix3 b i j : S8x2048x2048.Idx).along 2 k = ix3 b i k := by
  funext a
  match a with
  | ⟨0, _⟩ => rfl
  | ⟨1, _⟩ => rfl
  | ⟨2, _⟩ => rfl

/-- The last axis's numbers, at place `k` of a row. -/
theorem iota_along (j k : Fin 2048) :
    iotaInDim S8x2048x2048 32 2 ((ix3 b i j : S8x2048x2048.Idx).along 2 k) = BitVec.ofNat 32 k.val := by
  rw [along_apply]
  rfl

/-- The greatest 20's indices are the neighbours' numbers. -/
theorem indices_apply (j : Fin 20) :
    val_main_indices (F := Ideal) x (ix3 b i j) = BitVec.ofNat 32 (Spec.near x b i j).val := by
  unfold val_main_indices Host.topK Host.sort2
  simp only [show (2 : ℕ) < S8x2048x2048.rank by decide, dif_pos]
  have key : ∀ J : S8x2048x2048.Idx, J = ix3 b i (j.castLE (by decide)) →
      iotaInDim S8x2048x2048 32 2 (J.along 2 (sortedFrom (fun k k' =>
        FloatOps.cmpfTotal (F := Ideal) (φ := .f32) .gt (val_main_v13 (F := Ideal) x (J.along 2 k)) (val_main_v13 (F := Ideal) x (J.along 2 k')) == 1#1) (J 2)))
        = BitVec.ofNat 32 (Spec.near x b i j).val := by
    rintro _ rfl
    have hv : ∀ k : Fin 2048, val_main_v13 (F := Ideal) x ((ix3 b i (j.castLE (by decide)) : S8x2048x2048.Idx).along 2 k)
        = Ideal.ofBits .f32 0xBF800000#32 * Spec.dist x b i k :=
      fun k => (congrArg _ (along_apply b i _ k)).trans (negDist_apply x b i k)
    have hB : (fun k k' : Fin 2048 => FloatOps.cmpfTotal (F := Ideal) (φ := .f32) .gt
          (val_main_v13 (F := Ideal) x ((ix3 b i (j.castLE (by decide)) : S8x2048x2048.Idx).along 2 k))
          (val_main_v13 (F := Ideal) x ((ix3 b i (j.castLE (by decide)) : S8x2048x2048.Idx).along 2 k')) == 1#1)
        = fun a c => decide (Spec.dist x b i a < Spec.dist x b i c) := by
      funext k k'
      rw [hv, hv]
      exact neg_gt _ _
    refine (congrArg (fun B : Fin 2048 → Fin 2048 → Bool => iotaInDim S8x2048x2048 32 2
      ((ix3 b i (j.castLE (by decide)) : S8x2048x2048.Idx).along 2 (sortedFrom B (j.castLE (by decide))))) hB).trans ?_
    exact iota_along b i _ (Spec.near x b i j)
  refine key _ (funext fun a => Fin.ext ?_)
  match a with
  | ⟨0, _⟩ => exact Nat.zero_add _
  | ⟨1, _⟩ => exact Nat.zero_add _
  | ⟨2, _⟩ => exact Nat.zero_add _

/-- The number of a neighbour among all batches' points. -/
def at_ (j : Fin 20) : Fin 16384 := ⟨2048 * b.val + (Spec.near x b i j).val, by omega⟩

theorem number_apply (j : Fin 20) : val_main_v20 (F := Ideal) x (ix3 b i j) = BitVec.ofNat 32 (at_ x b i j).val := by
  have h : val_main_v19 (F := Ideal) (ix3 b i j) = IntOp.muli (BitVec.ofNat 32 b.val) 2048#32 := by
    unfold val_main_v19 val_main_v18 val_main_v17 val_main_v16 val_main_v15 val_main_c
    pointwise []
  rw [val_main_v20_apply, indices_apply, h]
  unfold IntOp.addi IntOp.muli at_
  rw [← BitVec.ofNat_mul, ← BitVec.ofNat_add, Nat.add_comm, Nat.mul_comm]

/-- It is no negative word, so the wrapped number is itself. -/
theorem column_apply (j : Fin 20) : val_main_call0_v5 (F := Ideal) x (ix4 b i j 0) = BitVec.ofNat 32 (at_ x b i j).val := by
  have h : val_main_call0_v5 (F := Ideal) x (ix4 b i j 0)
      = Scalar.select (IntOp.cmpi .slt (val_main_v20 (F := Ideal) x (ix3 b i j)) 0#32)
        (IntOp.addi (val_main_v20 (F := Ideal) x (ix3 b i j)) 16384#32) (val_main_v20 (F := Ideal) x (ix3 b i j)) := by
    unfold val_main_call0_v5 val_main_call0_v4 val_main_call0_v3 val_main_call0_v2 val_main_call0_v1 val_main_call0_v0
      val_main_call0_c val_main_call0_c_0
    pointwise []
  rw [h, number_apply]
  have hn := (at_ x b i j).isLt
  generalize (at_ x b i j).val = n at hn
  rw [WordCmp.cmpi_slt_ofNat (w := 32) (a := n) (b := 0) (by omega) (by omega), decide_eq_false (by omega)]
  rfl

/-- A word below 16384 reads as itself. -/
theorem toInt_small (n : ℕ) (hn : n < 16384) : (BitVec.ofNat 32 n).toInt = n := by
  rw [BitVec.toInt_eq_toNat_of_lt] <;> rw [BitVec.toNat_ofNat, Nat.mod_eq_of_lt (by omega)]
  omega

/-- The take's range test passes. -/
theorem inRange_apply (j : Fin 20) : val_main_call0_v11 (F := Ideal) x (ix4 b i j 0) = 1#1 := by
  have h : val_main_call0_v11 (F := Ideal) x (ix4 b i j 0)
      = IntOp.andi (IntOp.cmpi .sge (val_main_call0_v5 (F := Ideal) x (ix4 b i j 0)) 0#32)
        (IntOp.cmpi .sle (val_main_call0_v5 (F := Ideal) x (ix4 b i j 0)) 16383#32) := by
    unfold val_main_call0_v11 val_main_call0_v10 val_main_call0_v9 val_main_call0_v8 val_main_call0_v7 val_main_call0_v6
      val_main_call0_c_1 val_main_call0_c_2
    pointwise []
  rw [h, column_apply]
  have hn := (at_ x b i j).isLt
  generalize (at_ x b i j).val = n at hn
  rw [WordCmp.cmpi_sge_ofNat (w := 32) (a := n) (b := 0) (by omega) (by omega),
    WordCmp.cmpi_sle_ofNat (w := 32) (a := n) (b := 16383) (by omega) (by omega), decide_eq_true (by omega), decide_eq_true (by omega)]
  rfl

/-- A conjunction of true words, starting at true, is true. -/
theorem foldl_and {α : Type} (f : α → BitVec 1) (hf : ∀ a, f a = 1#1) (l : List α) :
    l.foldl (fun r a => IntOp.andi r (f a)) 1#1 = 1#1 := by
  induction l with
  | nil => rfl
  | cons a l ih => rw [List.foldl_cons, hf]; exact ih

/-- So no point is masked. -/
theorem mask_apply (k : S8x2048x20.Idx) : val_main_call0_v12 (F := Ideal) x k = 1#1 := by
  unfold val_main_call0_v12 Host.reduce
  refine foldl_and (fun n => val_main_call0_v11 (F := Ideal) x (S8x2048x20x1.rowMajor.symm n)) (fun n => ?_) _
  generalize S8x2048x20x1.rowMajor.symm n = q
  idx_vars q
  obtain rfl : q3 = 0 := Subsingleton.elim _ _
  exact inRange_apply x q0 q1 q2

/-- The gather reads the row its start index names. -/
theorem gather_apply (y : S16384x16.Idx → EReal) (w : IVec S8x2048x20x1 32) (j : Fin 20) (e : Fin 16) (n : Fin 16384)
    (h : w (ix4 b i j 0) = BitVec.ofNat 32 n.val) :
    Host.gather gather_S16384x16_S8x2048x20x1_S8x2048x20x16_3_0_n_n_0_3_116 y w (ix4 b i j e) = y (ix2 n e) := by
  have hsi : gather_S16384x16_S8x2048x20x1_S8x2048x20x16_3_0_n_n_0_3_116.siIdx (ix4 b i j e) ⟨0, Nat.one_pos⟩ = ix4 b i j 0 := by
    funext a
    match a with
    | ⟨0, _⟩ => rfl
    | ⟨1, _⟩ => rfl
    | ⟨2, _⟩ => rfl
    | ⟨3, _⟩ => rfl
  unfold Host.gather
  congr 1
  funext a
  refine Fin.ext ?_
  show GatherDims.start _ _ _ a + GatherDims.batchCoord _ _ a + GatherDims.offCoord _ _ a = _
  rw [GatherDims.batchCoord_eq_zero _ _ a List.not_mem_nil]
  match a with
  | ⟨0, _⟩ =>
    rw [GatherDims.offCoord_eq_zero _ _ _ (fun h => ((GatherDims.mem_sKept _ _).mp h).1 (List.mem_singleton.mpr rfl))]
    show min (w (gather_S16384x16_S8x2048x20x1_S8x2048x20x16_3_0_n_n_0_3_116.siIdx (ix4 b i j e) ⟨0, Nat.one_pos⟩)).toInt.toNat 16383 + 0 + 0 = n.val
    rw [hsi, h, toInt_small n.val n.isLt]
    have := n.isLt
    omega
  | ⟨1, _⟩ =>
    show 0 + 0 + e.val = e.val
    omega

/-! ## The edges -/

/-- The points, all batches in one list. -/
theorem flat_apply (j : Fin 20) (e : Fin 16) :
    val_main_v14 (F := Ideal) x (ix2 (at_ x b i j) e) = x (ix3 b (Spec.near x b i j) e) := by
  unfold val_main_v14 at_
  pointwise []

/-- The neighbours' points. -/
theorem taken_apply (j : Fin 20) (e : Fin 16) :
    val_main_v21 (F := Ideal) x (ix4 b i j e) = x (ix3 b (Spec.near x b i j) e) := by
  rw [val_main_v21_apply, val_main_call0_v14_apply, mask_apply]
  show val_main_call0_v13 (F := Ideal) x (ix4 b i j e) = _
  unfold val_main_call0_v13
  rw [gather_apply b i _ _ j e (at_ x b i j) (column_apply x b i j), flat_apply]

/-- Each point, once for each of its neighbours. -/
theorem tiled_apply (j : Fin 20) (e : Fin 16) : val_main_v25 (F := Ideal) x (ix4 b i j e) = x (ix3 b i e) := by
  unfold val_main_v25 val_main_v24 val_main_v23 val_main_v22
  pointwise []

/-- The reference's result. -/
theorem result_apply (j : Fin 20) (l : Fin 32) : val_main_v27 (F := Ideal) x (ix4 b i j l) = Spec.edge x b i j l := by
  unfold val_main_v27
  pointwise []
  unfold Spec.edge
  split
  · rw [tiled_apply]
  · rw [val_main_v26_apply, tiled_apply, taken_apply]
    rfl

end Cert.ReferenceIdeal.Edges

end
-- ==== Proof.Finite.lean ====
/- What the precondition says: every entry of the input is a real number. -/
module

public import proofs.«01_k».proof.Proof.Spec
public import proofs.«01_k».proof.Proof.Gen.Pre_finite

@[expose] public section

noncomputable section

namespace Cert.Finite

open Idealize.ShloMosaic

theorem ofBits_top : Ideal.ofBits .f32 0x7F800000#32 = (⊤ : EReal) := by
  simp [Ideal.ofBits, Ideal.ieee]

/-- If a conjunction of words is true, so is each of them. -/
theorem of_foldl_and {α : Type} (f : α → BitVec 1) (l : List α) (r : BitVec 1)
    (h : l.foldl (fun r a => IntOp.andi r (f a)) r = 1#1) : r = 1#1 ∧ ∀ a ∈ l, f a = 1#1 := by
  have both : ∀ s t : BitVec 1, IntOp.andi s t = 1#1 → s = 1#1 ∧ t = 1#1 := by decide
  induction l generalizing r with
  | nil => exact ⟨h, fun a ha => absurd ha List.not_mem_nil⟩
  | cons a l ih =>
    obtain ⟨h1, h2⟩ := ih _ h
    obtain ⟨h3, h4⟩ := both _ _ h1
    exact ⟨h3, fun c hc => (List.mem_cons.mp hc).elim (fun e => e ▸ h4) (h2 c)⟩

/-- The precondition, entry by entry. -/
theorem real_of_finite (x : Spec.Points) (h : Cert.Pre_finite.fn (F := Ideal) x = fun _ => 1#1)
    (i : (⟨3, ![8, 2048, 16]⟩ : Shape).Idx) : x i ≠ ⊤ ∧ x i ≠ ⊥ := by
  have h0 := congrFun h ix0
  have h1 := (of_foldl_and _ _ _ h0).2 ((⟨3, ![8, 2048, 16]⟩ : Shape).rowMajor i)
    (List.mem_filter.mpr ⟨List.mem_finRange _, decide_eq_true (Subsingleton.elim _ _)⟩)
  rw [Equiv.symm_apply_apply] at h1
  idx_vars i
  revert h1
  pointwise []
  generalize x (ix3 i0 i1 i2) = y
  rw [ofBits_top]
  show BitVec.ofBool (decide (max y (-y) < ⊤)) = 1#1 → _
  intro h2
  have h3 : max y (-y) < ⊤ := by
    by_contra h4
    rw [decide_eq_false h4] at h2
    exact absurd h2 (by decide)
  obtain ⟨h5, h6⟩ := max_lt_iff.mp h3
  exact ⟨h5.ne, fun e => h6.ne (by rw [e, EReal.neg_bot])⟩

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Array
public import proofs.«01_k».proof.Proof.Reference
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference runs, and its arguments end unchanged: it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩)
    (Cert.ReferenceIdeal.Value.run m g)

/-- The reference's run: its result is the edges of its argument. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v27)
          = Cert.KernelIdeal.Whole.edges (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) := by
  refine (θ_run _ _ _).mono (fun r h c => ⟨((h c).1.trans (Cert.ReferenceIdeal.Read.val_main_v27_eq m c)).trans ?_, (h c).2⟩)
    (Cert.ReferenceIdeal.Value.run m g)
  funext i
  idx_vars i
  exact Cert.ReferenceIdeal.Edges.result_apply _ i0 i1 i2 i3

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m g _ => frame_reference m g, fun m g _ => frame_reference m g, trivial,
  fun m g m' g' hpre hargs => by
    refine ⟨fun c => Cert.KernelIdeal.Whole.edges (m ((c.tc : Thread Cert.KernelIdeal.nD Cert.KernelIdeal.τ).loc Cert.KernelIdeal.main_arg0)),
      Cert.KernelIdeal.Whole.run m g (fun c => Cert.Finite.real_of_finite _ (hpre c)), ?_⟩
    refine (θ_run _ _ _).mono (fun r h c => ⟨(h c).1.trans ?_, (h c).2⟩) (run_reference m' g')
    rw [hargs c]⟩

end Cert.Proof

end
